-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rotation_table [hPre_rotation_table : Cert.Pre_rotation_table.Facts] (m : (ℓ : Loc Cert.KernelIdeal.nD Cert.KernelIdeal.τ Cert.KernelIdeal.sig) → Buf (Elt Ideal) ℓ) : Prop :=
  ∀ c : Dev Cert.KernelIdeal.nD,
    (Cert.Pre_rotation_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rotation_table [hPre_rotation_table : Cert.Pre_rotation_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotation_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rotation_table [hKernelIdeal : Cert.KernelIdeal.Facts] [hPre_rotation_table : Cert.Pre_rotation_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotation_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rotation_table [hReferenceIdeal : Cert.ReferenceIdeal.Facts] [hPre_rotation_table : Cert.Pre_rotation_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotation_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rotation_table [hKernelIdeal : Cert.KernelIdeal.Facts] [hReferenceIdeal : Cert.ReferenceIdeal.Facts] [hPre_rotation_table : Cert.Pre_rotation_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotation_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_rotation_table : Cert.Pre_rotation_table.Facts),
    quiescent_Kernel (hKernel := hKernel)
    ∧ quiescent_KernelIdeal (hKernelIdeal := hKernelIdeal)
    ∧ quiescent_KernelIdeal_pre_rotation_table (hKernelIdeal := hKernelIdeal) (hPre_rotation_table := hPre_rotation_table)
    ∧ quiescent_ReferenceIdeal (hReferenceIdeal := hReferenceIdeal)
    ∧ quiescent_ReferenceIdeal_pre_rotation_table (hReferenceIdeal := hReferenceIdeal) (hPre_rotation_table := hPre_rotation_table)
    ∧ preserves_Kernel_KernelIdeal
    ∧ algebraic_KernelIdeal_ReferenceIdeal_pre_rotation_table (hKernelIdeal := hKernelIdeal) (hReferenceIdeal := hReferenceIdeal) (hPre_rotation_table := hPre_rotation_table)
-- ==== Pre_rotation_table.lean ====
abbrev S4x4096 : Shape := ⟨2, ![4, 4096]⟩
abbrev S8192x1024 : Shape := ⟨2, ![8192, 1024]⟩
abbrev S4096x512 : Shape := ⟨2, ![4096, 512]⟩
abbrev S1x512 : Shape := ⟨2, ![1, 512]⟩
abbrev S_ : Shape := ⟨0, ![]⟩
abbrev S4095x512 : Shape := ⟨2, ![4095, 512]⟩

class Facts : Prop where
  slicesBy_S8192x1024_S4096x512_0s1_0s2 : S8192x1024.SlicesBy (![0, 0] : Fin 2 → Nat) ![1, 2] S4096x512
  slicesBy_S8192x1024_S4096x512_0s1_1s2 : S8192x1024.SlicesBy (![0, 1] : Fin 2 → Nat) ![1, 2] S4096x512
  slices_S4096x512_S1x512_0_0 : S4096x512.Slices ![0, 0] S1x512
  bcast_S_S1x512 : S_.BroadcastsInDim S1x512 (![] : Fin 0 → Fin S1x512.rank)
  reducesTo_S1x512_S_d0_1 : S1x512.ReducesTo [0, 1] S_
  h_S_ : 0 < S_.numel
  slices_S4096x512_S4095x512_1_0 : S4096x512.Slices ![1, 0] S4095x512
  slices_S4096x512_S4095x512_0_0 : S4096x512.Slices ![0, 0] S4095x512
  bcast_S1x512_S4095x512_0_1 : S1x512.BroadcastsInDim S4095x512 (![0, 1] : Fin 2 → Fin S4095x512.rank)
  reducesTo_S4095x512_S_d0_1 : S4095x512.ReducesTo [0, 1] S_

variable [Facts]

def fn_part1 {F : FTy → Type} [FloatOps F] (main_v0 : FVec F S4096x512 .f32) (main_v1 : FVec F S4096x512 .f32) (main_v2 : FVec F S1x512 .f32) (main_v3 : FVec F S1x512 .f32) (main_v12 : IVec S_ 1) (main_v13 : FVec F S4095x512 .f32) (main_v16 : FVec F S4095x512 .f32) (main_v19 : FVec F S4095x512 .f32) : IVec S_ 1 :=
  let main_v20 : FVec F S4095x512 .f32 := addf main_v16 main_v19
  let main_v21 : IVec S4095x512 1 := cmpf .oeq main_v13 main_v20
  let main_c_2 : IVec S_ 1 := constantI S_ 1 1#1
  let main_v22 : IVec S_ 1 := (fun x v => Host.reduce IntOp.andi x v reducesTo_S4095x512_S_d0_1 h_S_) main_v21 main_c_2
  let main_v23 : IVec S_ 1 := andi main_v12 main_v22
  let main_v24 : FVec F S4095x512 .f32 := (extractStridedSlice S4095x512 ![1, 0] · slices_S4096x512_S4095x512_1_0) main_v1
  let main_v25 : FVec F S4095x512 .f32 := (extractStridedSlice S4095x512 ![0, 0] · slices_S4096x512_S4095x512_0_0) main_v1
  let main_v26 : FVec F S4095x512 .f32 := broadcastInDim S4095x512 ![0, 1] bcast_S1x512_S4095x512_0_1 main_v3
  let main_v27 : FVec F S4095x512 .f32 := mulf main_v25 main_v26
  let main_v28 : FVec F S4095x512 .f32 := (extractStridedSlice S4095x512 ![0, 0] · slices_S4096x512_S4095x512_0_0) main_v0
  let main_v29 : FVec F S4095x512 .f32 := broadcastInDim S4095x512 ![0, 1] bcast_S1x512_S4095x512_0_1 main_v2
  let main_v30 : FVec F S4095x512 .f32 := mulf main_v28 main_v29
  let main_v31 : FVec F S4095x512 .f32 := subf main_v27 main_v30
  let main_v32 : IVec S4095x512 1 := cmpf .oeq main_v24 main_v31
  let main_c_3 : IVec S_ 1 := constantI S_ 1 1#1
  let main_v33 : IVec S_ 1 := (fun x v => Host.reduce IntOp.andi x v reducesTo_S4095x512_S_d0_1 h_S_) main_v32 main_c_3
  let main_v34 : IVec S_ 1 := andi main_v23 main_v33
  main_v34

def fn {F : FTy → Type} [FloatOps F] (main_arg0 : IVec S4x4096 32) (main_arg1 : FVec F S8192x1024 .f32) : IVec S_ 1 :=
  let main_v0 : FVec F S4096x512 .f32 := (Host.slice S4096x512 ![0, 0] ![1, 2] · slicesBy_S8192x1024_S4096x512_0s1_0s2) main_arg1
  let main_v1 : FVec F S4096x512 .f32 := (Host.slice S4096x512 ![0, 1] ![1, 2] · slicesBy_S8192x1024_S4096x512_0s1_1s2) main_arg1
  let main_v2 : FVec F S1x512 .f32 := (extractStridedSlice S1x512 ![0, 0] · slices_S4096x512_S1x512_0_0) main_v0
  let main_v3 : FVec F S1x512 .f32 := (extractStridedSlice S1x512 ![0, 0] · slices_S4096x512_S1x512_0_0) main_v1
  let main_v4 : FVec F S1x512 .f32 := Host.absf main_v2
  let main_cst : FVec F S_ .f32 := constant S_ .f32 0x7F800000#32
  let main_v5 : FVec F S1x512 .f32 := broadcastInDim S1x512 ![] bcast_S_S1x512 main_cst
  let main_v6 : IVec S1x512 1 := cmpf .olt main_v4 main_v5
  let main_c : IVec S_ 1 := constantI S_ 1 1#1
  let main_v7 : IVec S_ 1 := (fun x v => Host.reduce IntOp.andi x v reducesTo_S1x512_S_d0_1 h_S_) main_v6 main_c
  let main_v8 : FVec F S1x512 .f32 := Host.absf main_v3
  let main_cst_0 : FVec F S_ .f32 := constant S_ .f32 0x7F800000#32
  let main_v9 : FVec F S1x512 .f32 := broadcastInDim S1x512 ![] bcast_S_S1x512 main_cst_0
  let main_v10 : IVec S1x512 1 := cmpf .olt main_v8 main_v9
  let main_c_1 : IVec S_ 1 := constantI S_ 1 1#1
  let main_v11 : IVec S_ 1 := (fun x v => Host.reduce IntOp.andi x v reducesTo_S1x512_S_d0_1 h_S_) main_v10 main_c_1
  let main_v12 : IVec S_ 1 := andi main_v7 main_v11
  let main_v13 : FVec F S4095x512 .f32 := (extractStridedSlice S4095x512 ![1, 0] · slices_S4096x512_S4095x512_1_0) main_v0
  let main_v14 : FVec F S4095x512 .f32 := (extractStridedSlice S4095x512 ![0, 0] · slices_S4096x512_S4095x512_0_0) main_v0
  let main_v15 : FVec F S4095x512 .f32 := broadcastInDim S4095x512 ![0, 1] bcast_S1x512_S4095x512_0_1 main_v3
  let main_v16 : FVec F S4095x512 .f32 := mulf main_v14 main_v15
  let main_v17 : FVec F S4095x512 .f32 := (extractStridedSlice S4095x512 ![0, 0] · slices_S4096x512_S4095x512_0_0) main_v1
  let main_v18 : FVec F S4095x512 .f32 := broadcastInDim S4095x512 ![0, 1] bcast_S1x512_S4095x512_0_1 main_v2
  let main_v19 : FVec F S4095x512 .f32 := mulf main_v17 main_v18
  fn_part1 (F := F) main_v0 main_v1 main_v2 main_v3 main_v12 main_v13 main_v16 main_v19
-- ==== Kernel.lean ====
abbrev S4x4096 : Shape := ⟨2, ![4, 4096]⟩
abbrev S8192x1024 : Shape := ⟨2, ![8192, 1024]⟩
abbrev S4096x1024 : Shape := ⟨2, ![4096, 1024]⟩
abbrev S256x1024 : Shape := ⟨2, ![256, 1024]⟩
abbrev S2x1024 : Shape := ⟨2, ![2, 1024]⟩
abbrev S_ : Shape := ⟨0, ![]⟩
abbrev S256x1023 : Shape := ⟨2, ![256, 1023]⟩
abbrev S256x1 : Shape := ⟨2, ![256, 1]⟩
abbrev S1x1024 : Shape := ⟨2, ![1, 1024]⟩
abbrev S1x1023 : Shape := ⟨2, ![1, 1023]⟩
abbrev S1x1 : Shape := ⟨2, ![1, 1]⟩
abbrev S1x4096x1024 : Shape := ⟨3, ![1, 4096, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4x4096, .i32⟩
  | .hbm, ⟨1, _⟩ => ⟨S8192x1024, .f32⟩
  | .hbm, ⟨2, _⟩ => ⟨S4096x1024, .f32⟩
  | .hbm, ⟨3, _⟩ => ⟨S1x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2x1024, .f32⟩
  | .local _ .vmem, ⟨5, _⟩ => ⟨S2x1024, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S4x4096 : Shape := ⟨2, ![4, 4096]⟩
abbrev S8192x1024 : Shape := ⟨2, ![8192, 1024]⟩
abbrev S4096x1024 : Shape := ⟨2, ![4096, 1024]⟩
abbrev S1x4096x1024 : Shape := ⟨3, ![1, 4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S8192x1024, .f32⟩
  | .hbm, ⟨2, _⟩ => ⟨S4096x1024, .f32⟩
  | .hbm, ⟨3, _⟩ => ⟨S1x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Rows.lean ====
module

public import Idealize.ShloMosaic.Lib.Pointwise
public import proofs.«01_k».proof.Proof.Gen.KernelIdeal.Frame
public import Idealize.ShloMosaic.Lib.Pipeline.ValueKit

/-!
  Two rows stored one after the other in a two-row buffer, and what is read back of them.

  The kernel keeps its running cosine and sine, and the cosine and sine of one step, in buffers of two rows. It always
  stores row 0 and then row 1, and reads single rows.
-/

@[expose] public section

noncomputable section

namespace Cert.Rows

open Cert.KernelIdeal Idealize.ShloMosaic Idealize.ShloMosaic.TcCoe

variable {F : FTy → Type} [FloatOps F]

/-- The row `k` of a two-row array, as a one-row array. -/
def rowOf (k : Fin 2) (X : Vec F S2x1024 .f32) : Vec F S1x1024 .f32 := fun x => X (ix2 k (x 1))

/-- The two-row array with rows `a` and `b`. -/
def pair (a b : Vec F S1x1024 .f32) : Vec F S2x1024 .f32 :=
  fun y => if (y 0).val = 0 then a (ix2 0 (y 1)) else b (ix2 0 (y 1))

theorem pair_zero (a b : Vec F S1x1024 .f32) (j : Fin 1024) : pair a b (ix2 0 j) = a (ix2 0 j) := rfl

theorem pair_one (a b : Vec F S1x1024 .f32) (j : Fin 1024) : pair a b (ix2 1 j) = b (ix2 0 j) := rfl

theorem rowOf_apply (k : Fin 2) (X : Vec F S2x1024 .f32) (j : Fin 1024) : rowOf k X (ix2 0 j) = X (ix2 k j) := rfl

theorem rowOf_pair_zero (a b : Vec F S1x1024 .f32) : rowOf 0 (pair a b) = a := by
  funext x
  idx_vars x
  obtain rfl : x0 = 0 := Subsingleton.elim _ _
  rfl

theorem rowOf_pair_one (a b : Vec F S1x1024 .f32) : rowOf 1 (pair a b) = b := by
  funext x
  idx_vars x
  obtain rfl : x0 = 0 := Subsingleton.elim _ _
  rfl

/-- Loading row 0 of a two-row array. -/
theorem ld_row0 (X : Vec F S2x1024 .f32) (inb) :
    View.ld X (Rect.unit (s := S2x1024) ![0, 0] ![1, 1024] inb) = rowOf 0 X := by
  funext x
  refine View.ld_unit_apply_of X _ _ inb x _ fun a => ?_
  match a with
  | ⟨0, _⟩ => have h : (x 0).val < 1 := (x 0).isLt; show 0 = 0 + (x 0).val; omega
  | ⟨1, _⟩ => show (x 1).val = 0 + (x 1).val; omega

/-- Loading row 1 of a two-row array. -/
theorem ld_row1 (X : Vec F S2x1024 .f32) (inb) :
    View.ld X (Rect.unit (s := S2x1024) ![1, 0] ![1, 1024] inb) = rowOf 1 X := by
  funext x
  refine View.ld_unit_apply_of X _ _ inb x _ fun a => ?_
  match a with
  | ⟨0, _⟩ => have h : (x 0).val < 1 := (x 0).isLt; show 1 = 1 + (x 0).val; omega
  | ⟨1, _⟩ => show (x 1).val = 0 + (x 1).val; omega

/-- The last store, read at an index it fills. -/
theorem canon_head {S : Shape} (r : Rect S) (w : r.shape.Idx → Elt F .f32) (L : List (View.Piece (Elt F) S .f32))
    (x : r.shape.Idx) (y : S.Idx) (h : r.emb x = y) : View.canon ((⟨r, w⟩ : View.Piece (Elt F) S .f32) :: L) y = w x := by
  subst h
  exact View.canon_cons_emb r w L x

/-- Where the rectangle of row `k` puts the entry `j`. -/
theorem emb_row (k : Nat) (hk : k < 2) (inb) (j : Fin 1024) :
    (Rect.unit (s := S2x1024) ![k, 0] ![1, 1024] inb).emb (ix2 0 j) = ix2 ⟨k, hk⟩ j := by
  funext a
  apply Fin.ext
  match a with
  | ⟨0, _⟩ => show k + 1 * 0 = k; omega
  | ⟨1, _⟩ => show 0 + 1 * j.val = j.val; omega

/-- Row 1 stored after row 0 leaves the pair of the two payloads, whatever was stored before. -/
theorem canon_pair (a b : Vec F S1x1024 .f32) (inb1 inb0) (L : List (View.Piece (Elt F) S2x1024 .f32)) :
    View.canon ((⟨Rect.unit (s := S2x1024) ![1, 0] ![1, 1024] inb1, b⟩ : View.Piece (Elt F) S2x1024 .f32) ::
      ⟨Rect.unit (s := S2x1024) ![0, 0] ![1, 1024] inb0, a⟩ :: L) = pair a b := by
  funext y
  idx_vars y
  by_cases h : y0.val = 0
  · obtain rfl : y0 = (0 : Fin 2) := Fin.ext h
    have hm : (ix2 (0 : Fin 2) y1 : S2x1024.Idx) ∉ (Rect.unit (s := S2x1024) ![1, 0] ![1, 1024] inb1).set := fun hm =>
      have h1 : 1 ≤ 0 := (Rect.mem_set_unit.mp hm ⟨0, Nat.zero_lt_two⟩).1
      absurd h1 (by decide)
    have hc := canon_head (F := F) (Rect.unit (s := S2x1024) ![0, 0] ![1, 1024] inb0) a L (ix2 0 y1) (ix2 (0 : Fin 2) y1)
      (emb_row 0 (by decide) inb0 y1)
    rw [View.canon_cons_of_not_mem
      (⟨Rect.unit (s := S2x1024) ![1, 0] ![1, 1024] inb1, b⟩ : View.Piece (Elt F) S2x1024 .f32) _ hm, hc, pair_zero]
  · obtain rfl : y0 = (1 : Fin 2) := Fin.ext (by have := y0.isLt; show y0.val = 1; omega)
    have hc := canon_head (F := F) (Rect.unit (s := S2x1024) ![1, 0] ![1, 1024] inb1) b
      (⟨Rect.unit (s := S2x1024) ![0, 0] ![1, 1024] inb0, a⟩ :: L) (ix2 0 y1) (ix2 (1 : Fin 2) y1)
      (emb_row 1 (by decide) inb1 y1)
    rw [hc, pair_one]

/-- Reading row 0 back after the two stores. -/
theorem readCov_pair0 {sig : RefSig} {κ : Kind} {sp : Space} (v : View sig κ sp S2x1024 .f32)
    (a b : Vec F S1x1024 .f32) (inb1 inb0 inb) (L : List (View.Piece (Elt F) S2x1024 .f32)) :
    v.readCov ((⟨Rect.unit (s := S2x1024) ![1, 0] ![1, 1024] inb1, b⟩ : View.Piece (Elt F) S2x1024 .f32) ::
      ⟨Rect.unit (s := S2x1024) ![0, 0] ![1, 1024] inb0, a⟩ :: L)
      (Rect.unit (s := S2x1024) ![0, 0] ![1, 1024] inb).toLoadRect = a := by
  rw [View.readCov_eq_canon', canon_pair]
  exact (ld_row0 (pair a b) inb).trans (rowOf_pair_zero a b)

/-- Reading row 1 back after the two stores. -/
theorem readCov_pair1 {sig : RefSig} {κ : Kind} {sp : Space} (v : View sig κ sp S2x1024 .f32)
    (a b : Vec F S1x1024 .f32) (inb1 inb0 inb) (L : List (View.Piece (Elt F) S2x1024 .f32)) :
    v.readCov ((⟨Rect.unit (s := S2x1024) ![1, 0] ![1, 1024] inb1, b⟩ : View.Piece (Elt F) S2x1024 .f32) ::
      ⟨Rect.unit (s := S2x1024) ![0, 0] ![1, 1024] inb0, a⟩ :: L)
      (Rect.unit (s := S2x1024) ![1, 0] ![1, 1024] inb).toLoadRect = b := by
  rw [View.readCov_eq_canon', canon_pair]
  exact (ld_row1 (pair a b) inb).trans (rowOf_pair_one a b)

end Cert.Rows

end
-- ==== Proof.Block.lean ====
module

public import proofs.«01_k».proof.Proof.Rows

/-!
  What one run of the kernel body leaves in the block of the output and in the four scratch buffers, as the body's own
  arithmetic on whole arrays.

  At the first grid point (case A) the body fills the scratch buffers from the first 256 rows of the table; at every
  other point (case B) it finds them as the point before left them.
-/

@[expose] public section

noncomputable section

namespace Cert.Block

open Cert.KernelIdeal Cert.KernelIdeal.Gen Cert.Rows
open Idealize.ShloMosaic Idealize.ShloMosaic.TcCoe Idealize.SL.Sem

variable {F : FTy → Type} [FloatOps F]

/-- The first 256 rows of the table. -/
def head (T : Vec F S8192x1024 .f32) : Vec F S256x1024 .f32 :=
  fun y => T (ix2 ⟨(y 0).val, Nat.lt_of_lt_of_le (y 0).isLt (by decide)⟩ (y 1))

theorem head_apply (T : Vec F S8192x1024 .f32) (r : Fin 256) (j : Fin 1024) :
    head T (ix2 r j) = T (ix2 ⟨r.val, by omega⟩ j) := rfl

/-- The last of the 256 rows, as a one-row array. -/
def lastRow (X : Vec F S256x1024 .f32) : Vec F S1x1024 .f32 := fun x => X (ix2 255 (x 1))

/-- The copy of the first 256 rows into the kernel's own memory holds those rows. -/
theorem read_head (c : Dev nD) (fh0 : HbBuf0 (F := F) c hbM0_0) (inb) :
    ReadAs.same.apply (View.read (Elt F) ((View.whole main_arg1).slice (Rect.unit (s := S8192x1024) ![0, 0] ![256, 1024] inb)) fh0)
      = head (F := F) fh0 := by
  funext y
  show fh0 _ = fh0 _
  refine congrArg fh0 (funext fun a => Fin.ext ?_)
  match a with
  | ⟨0, _⟩ => show 0 + 1 * (y 0).val = (y 0).val; omega
  | ⟨1, _⟩ => show 0 + 1 * (y 1).val = (y 1).val; omega

/-- Row 255 read back of a buffer filled as a whole. -/
theorem readCov_last {sig : RefSig} {κ : Kind} {sp : Space} (v : View sig κ sp S256x1024 .f32) (X : Vec F S256x1024 .f32) (inb) :
    v.readCov [(⟨Rect.whole S256x1024, X⟩ : View.Piece (Elt F) S256x1024 .f32)]
      (Rect.unit (s := S256x1024) ![255, 0] ![1, 1024] inb).toLoadRect = lastRow X := by
  have e : ∀ j : Fin 1024, (Rect.whole S256x1024).emb (ix2 255 j) = ix2 (255 : Fin 256) j := by
    intro j
    funext a
    apply Fin.ext
    match a with
    | ⟨0, _⟩ => rfl
    | ⟨1, _⟩ => show 0 + 1 * j.val = j.val; omega
  rw [View.readCov_eq_canon']
  funext x
  have hx : (Rect.unit (s := S256x1024) ![255, 0] ![1, 1024] inb).toLoadRect.idx x = ix2 (255 : Fin 256) (x 1) := by
    funext a
    apply Fin.ext
    match a with
    | ⟨0, _⟩ => have h : (x 0).val < 1 := (x 0).isLt; show 255 + 1 * (x 0).val = 255; omega
    | ⟨1, _⟩ => show 0 + 1 * (x 1).val = (x 1).val; omega
  rw [hx]
  exact canon_head (F := F) (Rect.whole S256x1024) X [] (ix2 255 (x 1)) (ix2 (255 : Fin 256) (x 1)) (e (x 1))

/-- A buffer filled as a whole holds what it was filled with. -/
theorem canon_all (X : Vec F S256x1024 .f32) :
    View.canon [(⟨Rect.whole S256x1024, X⟩ : View.Piece (Elt F) S256x1024 .f32)] = X := by
  funext y
  refine canon_head (F := F) (Rect.whole S256x1024) X [] (y : S256x1024.Idx) y (funext fun a => Fin.ext ?_)
  show 0 + 1 * (y a).val = (y a).val
  omega

/-- All rows read back of a buffer filled as a whole. -/
theorem readCov_all {sig : RefSig} {κ : Kind} {sp : Space} (v : View sig κ sp S256x1024 .f32) (X : Vec F S256x1024 .f32) (inb) :
    v.readCov [(⟨Rect.whole S256x1024, X⟩ : View.Piece (Elt F) S256x1024 .f32)]
      (Rect.unit (s := S256x1024) ![0, 0] ![256, 1024] inb).toLoadRect = X := by
  rw [View.readCov_eq_canon', canon_all]
  funext x
  refine congrArg X (funext fun a => Fin.ext ?_)
  match a with
  | ⟨0, _⟩ => show 0 + 1 * (x 0).val = (x 0).val; omega
  | ⟨1, _⟩ => show 0 + 1 * (x 1).val = (x 1).val; omega

variable (c : Dev nD) (i : grid0.Coords) (arg2 : Memref sig .tc .vmem S256x1024 .f32) (harg2 : arg2.IsWhole)
  (arg3 : Memref sig .tc .vmem S256x1024 .f32) (harg3 : arg3.IsWhole) (arg4 : Memref sig .tc .vmem S256x1024 .f32)
  (harg4 : arg4.IsWhole) (arg5 : Memref sig .tc .vmem S2x1024 .f32) (harg5 : arg5.IsWhole)
  (arg6 : Memref sig .tc .vmem S2x1024 .f32) (harg6 : arg6.IsWhole)

section Later

variable (hc0 : ¬cond0_0 i) (xs0 : Vec F S256x1024 .f32) (xs1 : Vec F S256x1024 .f32) (xs2 : Vec F S2x1024 .f32)
  (xs3 : Vec F S2x1024 .f32) (fh0 : HbBuf0 (F := F) c hbM0_0)

/-- A later point writes the turned seed to its block of the output. -/
theorem later_out : out0_B_0 c i arg2 harg2 arg3 harg3 arg4 harg4 arg5 harg5 arg6 harg6 hc0 xs0 xs1 xs2 xs3 fh0
    = k0_pay6 (rowOf 0 xs2) (rowOf 1 xs2) xs0 xs1 := by
  frame_out [ld_row0, ld_row1]

/-- A later point leaves the running cosine and sine turned by one step. -/
theorem later_cs : sout0_B_2 c i arg2 harg2 arg3 harg3 arg4 harg4 arg5 harg5 arg6 harg6 hc0 xs0 xs1 xs2 xs3 fh0
    = pair (k0_pay7 (rowOf 0 xs2) (rowOf 1 xs2) (rowOf 0 xs3) (rowOf 1 xs3))
        (k0_pay8 (rowOf 0 xs2) (rowOf 1 xs2) (rowOf 0 xs3) (rowOf 1 xs3)) := by
  frame_out [ld_row0, ld_row1, canon_pair]

end Later

section First

variable (hc0 : cond0_0 i) (fh0 : HbBuf0 (F := F) c hbM0_0)

/-- One step's cosine and sine, from the last row of the seed. -/
def stepOf (T : Vec F S8192x1024 .f32) : Vec F S2x1024 .f32 :=
  pair (k0_pay2 (lastRow (head T)) (iota .tc S1x1024 32 [1] iota_S1x1024_d1_w32) 2#32 0#1)
    (k0_pay3 (lastRow (head T)) (iota .tc S1x1024 32 [1] iota_S1x1024_d1_w32) 2#32 0#1)

/-- The first point copies the first 256 rows. -/
theorem first_seed : sout0_A_0 c i arg2 harg2 arg3 harg3 arg4 harg4 arg5 harg5 arg6 harg6 hc0 fh0 = head (F := F) fh0 := by
  frame_out
  erw [read_head]
  exact canon_all _

/-- The first point keeps the seed with sines and cosines swapped. -/
theorem first_swapped : sout0_A_1 c i arg2 harg2 arg3 harg3 arg4 harg4 arg5 harg5 arg6 harg6 hc0 fh0
    = k0_pay9 (head (F := F) fh0) := by
  frame_out [readCov_all]
  erw [read_head]

/-- The first point keeps one step's cosine and sine. -/
theorem first_step : sout0_A_3 c i arg2 harg2 arg3 harg3 arg4 harg4 arg5 harg5 arg6 harg6 hc0 fh0
    = stepOf (F := F) fh0 := by
  frame_out [readCov_all, canon_pair, readCov_last]
  erw [read_head]
  rfl

/-- The first point starts the running cosine and sine at one and zero and turns them by one step. -/
theorem first_cs : sout0_A_2 c i arg2 harg2 arg3 harg3 arg4 harg4 arg5 harg5 arg6 harg6 hc0 fh0
    = pair (k0_pay7 k0_pay4 k0_pay5 (rowOf 0 (stepOf (F := F) fh0)) (rowOf 1 (stepOf (F := F) fh0)))
        (k0_pay8 k0_pay4 k0_pay5 (rowOf 0 (stepOf (F := F) fh0)) (rowOf 1 (stepOf (F := F) fh0))) := by
  simp only [stepOf, rowOf_pair_zero, rowOf_pair_one]
  frame_out [readCov_all, canon_pair, readCov_last, readCov_pair0, readCov_pair1]
  erw [read_head]

/-- The first point writes the seed, turned by nothing. -/
theorem first_out : out0_A_0 c i arg2 harg2 arg3 harg3 arg4 harg4 arg5 harg5 arg6 harg6 hc0 fh0
    = k0_pay6 k0_pay4 k0_pay5 (head (F := F) fh0) (k0_pay9 (head (F := F) fh0)) := by
  frame_out [readCov_all, readCov_pair0, readCov_pair1]
  erw [read_head]

end First

end Cert.Block

end
-- ==== Proof.Points.lean ====
module

public import proofs.«01_k».proof.Proof.Block

/-!
  What the grid points hand on to one another, and the block each of them writes.

  Before point `n` the running cosine and sine have been turned `n` times by the step; the seed, the swapped seed and
  the step itself never change after the first point.
-/

@[expose] public section

noncomputable section

namespace Cert.Points

open Cert.KernelIdeal Cert.KernelIdeal.Gen Cert.Rows Cert.Block
open Idealize.ShloMosaic Idealize.ShloMosaic.TcCoe Idealize.SL.Sem

variable {F : FTy → Type} [FloatOps F]

/-- The running cosine and sine before point `n`. -/
def turned (T : Vec F S8192x1024 .f32) : ℕ → Vec F S1x1024 .f32 × Vec F S1x1024 .f32
  | 0 => (k0_pay4, k0_pay5)
  | n + 1 =>
    (k0_pay7 (turned T n).1 (turned T n).2 (rowOf 0 (stepOf T)) (rowOf 1 (stepOf T)),
      k0_pay8 (turned T n).1 (turned T n).2 (rowOf 0 (stepOf T)) (rowOf 1 (stepOf T)))

/-- The block point `n` writes. -/
def blockOf (T : Vec F S8192x1024 .f32) (n : ℕ) : Vec F S256x1024 .f32 :=
  k0_pay6 (turned T n).1 (turned T n).2 (head T) (k0_pay9 (head T))

/-- What point `n` leaves: its block, and the scratch buffers for the next point. -/
def leaves (T : Vec F S8192x1024 .f32) (n : ℕ) :
    Vec F S256x1024 .f32 × Vec F S256x1024 .f32 × Vec F S256x1024 .f32 × Vec F S2x1024 .f32 × Vec F S2x1024 .f32 :=
  (blockOf T n, head T, k0_pay9 (head T), pair (turned T (n + 1)).1 (turned T (n + 1)).2, stepOf T)

variable (m : ∀ r, Buf (Elt F) r)

/-- Every point leaves what `leaves` says, by induction along the grid. -/
theorem outs_eq (c : Dev nD) (n : ℕ) (hn : n < cfg0.N) : outsAt0 m c n hn = leaves (F := F) (V m c main_arg1) n := by
  have hN : cfg0.N = 16 := N_0
  induction n with
  | zero =>
    rw [outsAt0_A m c ⟨0, hn⟩ (Nat.zero_mod _), first_out, first_seed, first_swapped, first_cs, first_step]
    rfl
  | succ n ih =>
    have hb : ¬(n + 1) % 16 = 0 := by omega
    have ih' := ih (by omega)
    rw [outsAt0_B m c ⟨n + 1, hn⟩ hb, later_out, later_cs]
    simp only [sout0_B_0, sout0_B_1, sout0_B_3, Nat.add_sub_cancel, ih', leaves, rowOf_pair_zero, rowOf_pair_one]
    rfl

end Cert.Points

end
-- ==== Proof.Array.lean ====
module

public import proofs.«01_k».proof.Proof.Points
public import Idealize.ShloMosaic.Lib.Pipeline.ValueKit

/-!
  The array the sixteen blocks make up, and the kernel program's run.

  The blocks tile the array, so its row `p` is row `p % 256` of block `p / 256`. After the pipeline the program adds
  a leading axis of length one and returns.
-/

@[expose] public section

noncomputable section

namespace Cert.Array

open Cert.KernelIdeal Cert.KernelIdeal.Gen Cert.Block Cert.Points
open Idealize.ShloMosaic Idealize.ShloMosaic.TcCoe Idealize.SL.Sem

variable {F : FTy → Type} [FloatOps F]

/-- The array made of the blocks: row `p` is row `p % 256` of block `p / 256`. -/
def rowsOf (T : Vec F S8192x1024 .f32) : Vec F S4096x1024 .f32 := fun i =>
  blockOf T ((i 0).val / 256) (ix2 (⟨(i 0).val % 256, Nat.mod_lt _ (by decide)⟩ : Fin 256) (i 1))

/-- Row `256 t + r` of the array is row `r` of block `t`. -/
theorem rowsOf_of_place (T : Vec F S8192x1024 .f32) (t : ℕ) (y : S256x1024.Idx) (i : S4096x1024.Idx)
    (h0 : (i 0).val = t * 256 + (y 0).val) (h1 : (i 1).val = (y 1).val) : blockOf T t y = rowsOf T i := by
  have hy : (y 0).val < 256 := (y 0).isLt
  have hd : (i 0).val / 256 = t := by omega
  unfold rowsOf
  rw [hd]
  congr 1
  funext a
  match a with
  | ⟨0, _⟩ => exact Fin.ext (by show (y 0).val = (i 0).val % 256; omega)
  | ⟨1, _⟩ => exact Fin.ext h1.symm

variable (m : ∀ r, Buf (Elt F) r)

/-- The place of an element of block `t` along the rows is `256 t` plus its row. -/
theorem index_row : ∀ t : Fin cfg0.N, win0_0.index t = ![t.val, 0] := by decide +kernel

/-- The output array after the last point. -/
theorem arr_eq (c : Dev nD) : (dats m 0 c).arrAt 0 cfg0.N = rowsOf (F := F) (V m c main_arg1) := by
  refine (dats m 0 c).arrAt_eq_of_covers 0 _ (by decide +kernel) fun t _ y => ?_
  have h0 := index_row t
  blk_simp
  rw [after0_0, outs_eq]
  refine rowsOf_of_place _ t.val y _ ?_ ?_
  · blk_simp [h0]
  · blk_simp [h0]

/-- The run of the kernel program: the result is the array of blocks under a leading axis of length one, and the
    arguments end as they began. -/
theorem run (ρ : Dev nD → PrngReg) :
    θ_run defs (onTc (τ := τ) (main (F := F))) ⟨m, fun _ => 0, ρ⟩ fun r => ∀ c : Dev nD,
      r.2.mem ((c.tc : Thread nD τ).loc main_v1)
        = broadcastInDim S1x4096x1024 ![1, 2] bcast_S4096x1024_S1x4096x1024_1_2
            (rowsOf (F := F) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨?_, ?_⟩) (θ_run_and (run_main m ρ) (frame m ρ))
  · refine ((h.1 c).2 main_v1 (Pipeline.mem_restRefs_of main_v1 (by decide) (by decide))).trans ?_
    have e : Pipeline.withArrays (cfgs 0).spec c (V0 m c) (fun w => (dats m 0 c).arrAt w (cfgs 0).N)
        (Proc.devRef .tc main_v0) = rowsOf (F := F) (V m c main_arg1) :=
      (Pipeline.withArrays_arr (cfgs 0).spec (fun a b _ => Subsingleton.elim (α := Fin 1) a b) c (V0 m c)
        (fun w => (dats m 0 c).arrAt w (cfgs 0).N) 0).trans (arr_eq m c)
    unfold Pipeline.afterTail₀
    simp only [List.flatten_cons, List.flatten_nil, List.append_nil, hostOps1]
    after_results
    rw [e]
    rfl
  · exact h.2.1 c

end Cert.Array

end
-- ==== Proof.Turn.lean ====
module

public import proofs.«01_k».proof.Proof.Block

/-!
  The body's arithmetic, entry by entry, over the ideal numbers.

  Column `2 k` of the table holds sines and column `2 k + 1` the cosines of the same angles. The lemmas say what each
  stored array holds in these two columns.
-/

@[expose] public section

noncomputable section

namespace Cert.Turn

open Cert.KernelIdeal Cert.KernelIdeal.Gen Cert.Rows Cert.Block
open Idealize.ShloMosaic Idealize.ShloMosaic.TcCoe

/-- The column of the sines of frequency `k`. -/
def sinCol (k : Fin 512) : Fin 1024 := ⟨2 * k.val, by omega⟩

/-- The column of the cosines of frequency `k`. -/
def cosCol (k : Fin 512) : Fin 1024 := ⟨2 * k.val + 1, by omega⟩

theorem sinCol_lt (k : Fin 512) : (sinCol k).val < 1023 := by
  show 2 * k.val < 1023
  omega

theorem cosCol_not_lt (k : Fin 512) : ¬(cosCol k).val < 1 := by
  show ¬ 2 * k.val + 1 < 1
  omega

/-- Every column is one of the two. -/
theorem col_cases (j : Fin 1024) : (∃ k, j = sinCol k) ∨ ∃ k, j = cosCol k := by
  rcases Nat.mod_two_eq_zero_or_one j.val with h | h
  · exact .inl ⟨⟨j.val / 2, by omega⟩, Fin.ext (by show j.val = 2 * (j.val / 2); omega)⟩
  · exact .inr ⟨⟨j.val / 2, by omega⟩, Fin.ext (by show j.val = 2 * (j.val / 2) + 1; omega)⟩

/-- The test "the column number is even", as the body computes it. -/
def isEven (j : Nat) : BitVec 1 :=
  IntOp.cmpi .eq
    (Scalar.select
      (IntOp.andi
        (IntOp.xori (IntOp.cmpi .slt (IntOp.remsi .vector (BitVec.ofNat 32 j) 2#32) 0#32) (Scalar.cmpi .slt 2#32 0#32))
        (IntOp.cmpi .ne (IntOp.remsi .vector (BitVec.ofNat 32 j) 2#32) 0#32))
      (IntOp.addi (IntOp.remsi .vector (BitVec.ofNat 32 j) 2#32) 2#32)
      (IntOp.remsi .vector (BitVec.ofNat 32 j) 2#32))
    0#32

theorem isEven_sinCol : ∀ k : Fin 512, isEven (sinCol k).val = 1#1 := by decide +kernel

theorem isEven_cosCol : ∀ k : Fin 512, isEven (cosCol k).val = 0#1 := by decide +kernel

/-- The block written is the seed times the running cosine plus the swapped seed times the running sine. -/
theorem out_apply (c s : Vec Ideal S1x1024 .f32) (X Y : Vec Ideal S256x1024 .f32) (r : Fin 256) (j : Fin 1024) :
    k0_pay6 c s X Y (ix2 r j) = X (ix2 r j) * c (ix2 0 j) + Y (ix2 r j) * s (ix2 0 j) := by
  pointwise [k0_pay6]

/-- The running cosine turned by one step. -/
theorem cos_apply (c s C S : Vec Ideal S1x1024 .f32) (j : Fin 1024) :
    k0_pay7 c s C S (ix2 0 j) = c (ix2 0 j) * C (ix2 0 j) - s (ix2 0 j) * S (ix2 0 j) := by
  pointwise [k0_pay7]

/-- The running sine turned by one step. -/
theorem sin_apply (c s C S : Vec Ideal S1x1024 .f32) (j : Fin 1024) :
    k0_pay8 c s C S (ix2 0 j) = s (ix2 0 j) * C (ix2 0 j) + c (ix2 0 j) * S (ix2 0 j) := by
  pointwise [k0_pay8]

/-- The running cosine starts at one. -/
theorem one_apply (j : Fin 1024) : k0_pay4 (F := Ideal) (ix2 0 j) = 1 := by
  pointwise [k0_pay4]

/-- The running sine starts at zero. -/
theorem zero_apply (j : Fin 1024) : k0_pay5 (F := Ideal) (ix2 0 j) = 0 := by
  pointwise [k0_pay5]

/-- The swapped seed, at any column, by the body's test. -/
theorem swapped_apply (X : Vec Ideal S256x1024 .f32) (r : Fin 256) (j : Fin 1024) :
    k0_pay9 X (ix2 r j) = Scalar.select (isEven j.val)
      (if h : j.val < 1023 then X (ix2 r ⟨1 + j.val, by omega⟩) else X (ix2 r ⟨j.val - 1023, by omega⟩))
      (0 - if h : j.val < 1 then X (ix2 r ⟨1023 + j.val, by omega⟩) else X (ix2 r ⟨j.val - 1, by omega⟩)) := by
  pointwise [k0_pay9]
  rfl

/-- In a column of sines the swapped seed holds the cosine. -/
theorem swapped_sinCol (X : Vec Ideal S256x1024 .f32) (r : Fin 256) (k : Fin 512) :
    k0_pay9 X (ix2 r (sinCol k)) = X (ix2 r (cosCol k)) := by
  rw [swapped_apply, isEven_sinCol, ValueIdx.select_one, dif_pos (sinCol_lt k)]
  exact congrArg (fun j => X (ix2 r j)) (Fin.ext (Nat.add_comm 1 _))

/-- In a column of cosines it holds the sine, negated. -/
theorem swapped_cosCol (X : Vec Ideal S256x1024 .f32) (r : Fin 256) (k : Fin 512) :
    k0_pay9 X (ix2 r (cosCol k)) = 0 - X (ix2 r (sinCol k)) := by
  rw [swapped_apply, isEven_cosCol, ValueIdx.select_zero, dif_neg (cosCol_not_lt k)]
  rfl

/-- The row of step cosines, at any column, by the body's test. -/
theorem stepCos_apply (X : Vec Ideal S1x1024 .f32) (j : Fin 1024) :
    k0_pay2 X (iota .tc S1x1024 32 [1] iota_S1x1024_d1_w32) 2#32 0#1 (ix2 0 j) = Scalar.select (isEven j.val)
      (if h : j.val < 1023 then X (ix2 0 ⟨1 + j.val, by omega⟩) else X (ix2 0 ⟨j.val - 1023, by omega⟩)) (X (ix2 0 j)) := by
  pointwise [k0_pay2, k0_pay1]
  rfl

/-- The row of step sines, at any column, by the body's test. -/
theorem stepSin_apply (X : Vec Ideal S1x1024 .f32) (j : Fin 1024) :
    k0_pay3 X (iota .tc S1x1024 32 [1] iota_S1x1024_d1_w32) 2#32 0#1 (ix2 0 j) = Scalar.select (isEven j.val)
      (X (ix2 0 j)) (if h : j.val < 1 then X (ix2 0 ⟨1023 + j.val, by omega⟩) else X (ix2 0 ⟨j.val - 1, by omega⟩)) := by
  pointwise [k0_pay3, k0_pay1]
  rfl

/-- A column `j` belongs to the frequency `k`. -/
def OfFreq (k : Fin 512) (j : Fin 1024) : Prop := j = sinCol k ∨ j = cosCol k

/-- One step's cosine in both columns of frequency `k`: the table's entry in row 255. -/
theorem stepOf_cos (T : Vec Ideal S8192x1024 .f32) (k : Fin 512) (j : Fin 1024) (h : OfFreq k j) :
    stepOf T (ix2 0 j) = T (ix2 255 (cosCol k)) := by
  unfold stepOf
  rw [pair_zero, stepCos_apply]
  rcases h with rfl | rfl
  · rw [isEven_sinCol, ValueIdx.select_one, dif_pos (sinCol_lt k)]
    exact congrArg (fun j => T (ix2 255 j)) (Fin.ext (Nat.add_comm 1 _))
  · rw [isEven_cosCol, ValueIdx.select_zero]
    rfl

/-- One step's sine in both columns of frequency `k`: the table's entry in row 255. -/
theorem stepOf_sin (T : Vec Ideal S8192x1024 .f32) (k : Fin 512) (j : Fin 1024) (h : OfFreq k j) :
    stepOf T (ix2 1 j) = T (ix2 255 (sinCol k)) := by
  unfold stepOf
  rw [pair_one, stepSin_apply]
  rcases h with rfl | rfl
  · rw [isEven_sinCol, ValueIdx.select_one]
    rfl
  · rw [isEven_cosCol, ValueIdx.select_zero, dif_neg (cosCol_not_lt k)]
    rfl

end Cert.Turn

end
-- ==== Proof.Rotation.lean ====
module

public import Mathlib.Data.Complex.Basic
public import Mathlib.Tactic.Ring
public import Mathlib.Tactic.Linarith

/-!
  Rotations of the plane: two sequences of real numbers that turn by one fixed rotation at each step.

  Sine and cosine at step `t` are read as the complex number `c t + i * s t`. Turning is then multiplication, so the
  number at step `t` is the first one to the power `t + 1`, and going on by 256 steps is multiplication by the number
  at step 255.
-/

@[expose] public section

noncomputable section

namespace Cert.Rotation

/-- Two sequences that turn, up to step `N`, by the rotation given by their own first members. -/
structure Turning (N : ℕ) (s c : ℕ → ℝ) : Prop where
  /-- The sine of a sum of two angles. -/
  sin_step : ∀ t < N, s (t + 1) = s t * c 0 + c t * s 0
  /-- The cosine of a sum of two angles. -/
  cos_step : ∀ t < N, c (t + 1) = c t * c 0 - s t * s 0

/-- The pair at step `t` as a complex number. -/
def point (s c : ℕ → ℝ) (t : ℕ) : ℂ := ⟨c t, s t⟩

variable {N : ℕ} {s c : ℕ → ℝ}

/-- One step is multiplication by the first point. -/
theorem point_succ (h : Turning N s c) (t : ℕ) (ht : t < N) :
    point s c (t + 1) = point s c t * point s c 0 := by
  apply Complex.ext
  · simp only [point, Complex.mul_re]
    exact h.cos_step t ht
  · simp only [point, Complex.mul_im]
    rw [h.sin_step t ht]
    ring

/-- The point at step `t` is a power of the first. -/
theorem point_pow (h : Turning N s c) (t : ℕ) (ht : t ≤ N) : point s c t = point s c 0 ^ (t + 1) := by
  induction t with
  | zero => simp
  | succ t ih => rw [point_succ h t (by omega), ih (by omega), ← pow_succ]

/-- Going on by `b` blocks of 256 steps is multiplication by the `b`-th power of the point at step 255. -/
theorem point_block (h : Turning N s c) (hN : 255 ≤ N) (b r : ℕ) (ht : 256 * b + r ≤ N) :
    point s c (256 * b + r) = point s c r * point s c 255 ^ b := by
  rw [point_pow h _ ht, point_pow h r (by omega), point_pow h 255 hN, ← pow_mul, ← pow_add]
  congr 1
  ring

/-- The angle turned by after `n` blocks: its cosine and sine. -/
def cosOf (s c : ℕ → ℝ) (n : ℕ) : ℝ := (point s c 255 ^ n).re
/-- See `cosOf`. -/
def sinOf (s c : ℕ → ℝ) (n : ℕ) : ℝ := (point s c 255 ^ n).im

theorem cosOf_zero : cosOf s c 0 = 1 := by simp [cosOf]
theorem sinOf_zero : sinOf s c 0 = 0 := by simp [sinOf]

/-- Turning the cosine by one more block. -/
theorem cosOf_succ (n : ℕ) : cosOf s c (n + 1) = cosOf s c n * c 255 - sinOf s c n * s 255 := by
  simp only [cosOf, sinOf, pow_succ, Complex.mul_re, point]

/-- Turning the sine by one more block. -/
theorem sinOf_succ (n : ℕ) : sinOf s c (n + 1) = sinOf s c n * c 255 + cosOf s c n * s 255 := by
  simp only [cosOf, sinOf, pow_succ, Complex.mul_im, point]
  ring

/-- The sine `b` blocks on, from the pair in the first block. -/
theorem sin_block (h : Turning N s c) (hN : 255 ≤ N) (b r : ℕ) (ht : 256 * b + r ≤ N) :
    s (256 * b + r) = s r * cosOf s c b + c r * sinOf s c b := by
  have e := congrArg Complex.im (point_block h hN b r ht)
  rw [Complex.mul_im] at e
  simp only [cosOf, sinOf]
  exact e.trans (by simp only [point]; ring)

/-- The cosine `b` blocks on, from the pair in the first block. -/
theorem cos_block (h : Turning N s c) (hN : 255 ≤ N) (b r : ℕ) (ht : 256 * b + r ≤ N) :
    c (256 * b + r) = c r * cosOf s c b - s r * sinOf s c b := by
  have e := congrArg Complex.re (point_block h hN b r ht)
  rw [Complex.mul_re] at e
  exact e

end Cert.Rotation

end
-- ==== Proof.Table.lean ====
module

public import proofs.«01_k».proof.Proof.Array
public import proofs.«01_k».proof.Proof.Turn
public import proofs.«01_k».proof.Proof.Rotation
public import Mathlib.Analysis.SpecialFunctions.Trigonometric.Basic

/-!
  A table whose rows turn: the blocks are its rows.

  `RotTable T` says of the first 4096 rows of `T` that each is the row before it turned by the first row, and that
  the first row is finite. For such a table, row `r` of block `b` is row `256 b + r` of the table.
-/

@[expose] public section

noncomputable section

namespace Cert.Table

open Cert.KernelIdeal Cert.KernelIdeal.Gen Cert.Rows Cert.Block Cert.Points Cert.Turn Cert.Rotation
open Idealize.ShloMosaic Idealize.ShloMosaic.TcCoe

/-- The table's entry in row `t`, as an extended real number. -/
def entry (T : Vec Ideal S8192x1024 .f32) (t : ℕ) (j : Fin 1024) : EReal := T (ix2 (Fin.ofNat 8192 t) j)

/-- The first row is finite, and each of the 4095 rows after it is the row before it turned by the first. -/
structure RotTable (T : Vec Ideal S8192x1024 .f32) : Prop where
  /-- The first row holds real numbers. -/
  first : ∀ k, ∃ a b : ℝ, entry T 0 (sinCol k) = a ∧ entry T 0 (cosCol k) = b
  /-- The sine of a sum of two angles. -/
  sin_step : ∀ k, ∀ t < 4095, entry T (t + 1) (sinCol k)
    = entry T t (sinCol k) * entry T 0 (cosCol k) + entry T t (cosCol k) * entry T 0 (sinCol k)
  /-- The cosine of a sum of two angles. -/
  cos_step : ∀ k, ∀ t < 4095, entry T (t + 1) (cosCol k)
    = entry T t (cosCol k) * entry T 0 (cosCol k) - entry T t (sinCol k) * entry T 0 (sinCol k)

variable {T : Vec Ideal S8192x1024 .f32}

/-- The sine in row `t`, as a real number. -/
def sn (T : Vec Ideal S8192x1024 .f32) (k : Fin 512) (t : ℕ) : ℝ := (entry T t (sinCol k)).toReal

/-- The cosine in row `t`, as a real number. -/
def cs (T : Vec Ideal S8192x1024 .f32) (k : Fin 512) (t : ℕ) : ℝ := (entry T t (cosCol k)).toReal

/-- All of the first 4096 rows hold real numbers. -/
theorem finite (h : RotTable T) (k : Fin 512) (t : ℕ) (ht : t ≤ 4095) :
    entry T t (sinCol k) = (sn T k t : EReal) ∧ entry T t (cosCol k) = (cs T k t : EReal) := by
  obtain ⟨a, b, ha, hb⟩ := h.first k
  have key : ∃ x y : ℝ, entry T t (sinCol k) = x ∧ entry T t (cosCol k) = y := by
    induction t with
    | zero => exact ⟨a, b, ha, hb⟩
    | succ t ih =>
      obtain ⟨x, y, hx, hy⟩ := ih (by omega)
      refine ⟨x * b + y * a, y * b - x * a, ?_, ?_⟩
      · rw [h.sin_step k t (by omega), hx, hy, ha, hb]
        push_cast
        rfl
      · rw [h.cos_step k t (by omega), hx, hy, ha, hb]
        push_cast
        rfl
  obtain ⟨x, y, hx, hy⟩ := key
  unfold sn cs
  rw [hx, hy]
  exact ⟨by rw [EReal.toReal_coe], by rw [EReal.toReal_coe]⟩

/-- The real numbers in the columns of one frequency turn. -/
theorem turning (h : RotTable T) (k : Fin 512) : Turning 4095 (sn T k) (cs T k) where
  sin_step t ht := by
    have e := h.sin_step k t ht
    rw [(finite h k (t + 1) (by omega)).1, (finite h k t (by omega)).1, (finite h k t (by omega)).2,
      (finite h k 0 (by omega)).1, (finite h k 0 (by omega)).2] at e
    exact_mod_cast e
  cos_step t ht := by
    have e := h.cos_step k t ht
    rw [(finite h k (t + 1) (by omega)).2, (finite h k t (by omega)).1, (finite h k t (by omega)).2,
      (finite h k 0 (by omega)).1, (finite h k 0 (by omega)).2] at e
    exact_mod_cast e

/-- The running cosine and sine before point `n` are those of `n` turns by the point in row 255. -/
theorem turned_eq (h : RotTable T) (k : Fin 512) (j : Fin 1024) (hj : OfFreq k j) (n : ℕ) :
    ((turned T n).1 (ix2 0 j) : EReal) = (cosOf (sn T k) (cs T k) n : EReal)
      ∧ ((turned T n).2 (ix2 0 j) : EReal) = (sinOf (sn T k) (cs T k) n : EReal) := by
  induction n with
  | zero =>
    refine ⟨(one_apply j).trans ?_, (zero_apply j).trans ?_⟩
    · rw [cosOf_zero]; rfl
    · rw [sinOf_zero]; rfl
  | succ n ih =>
    have f := finite h k 255 (by omega)
    have hs : (rowOf 1 (stepOf T) (ix2 0 j) : EReal) = (sn T k 255 : EReal) :=
      (rowOf_apply ..).trans ((stepOf_sin T k j hj).trans f.1)
    have hc : (rowOf 0 (stepOf T) (ix2 0 j) : EReal) = (cs T k 255 : EReal) :=
      (rowOf_apply ..).trans ((stepOf_cos T k j hj).trans f.2)
    refine ⟨(cos_apply _ _ _ _ j).trans ?_, (sin_apply _ _ _ _ j).trans ?_⟩
    · rw [cosOf_succ, ih.1, ih.2, hs, hc]
      push_cast
      rfl
    · rw [sinOf_succ, ih.1, ih.2, hs, hc]
      push_cast
      rfl

/-- The head of the table is its first 256 rows. -/
theorem head_entry (r : Fin 256) (j : Fin 1024) : (head T (ix2 r j) : EReal) = entry T r.val j := by
  refine (head_apply T r j).trans (congrArg (fun i => T (ix2 i j)) (Fin.ext ?_))
  show r.val = r.val % 8192
  omega

/-- Row `r` of block `b` is row `256 b + r` of the table. -/
theorem blockOf_eq (h : RotTable T) (b : ℕ) (r : Fin 256) (j : Fin 1024) (hb : 256 * b + r.val ≤ 4095) :
    (blockOf T b (ix2 r j) : EReal) = entry T (256 * b + r.val) j := by
  have hr : r.val ≤ 4095 := by omega
  refine (out_apply _ _ _ _ r j).trans ?_
  rcases col_cases j with ⟨k, rfl⟩ | ⟨k, rfl⟩
  · have t := turned_eq h k (sinCol k) (.inl rfl) b
    rw [swapped_sinCol, head_entry, head_entry, t.1, t.2, (finite h k r.val hr).1, (finite h k r.val hr).2,
      (finite h k _ hb).1, sin_block (turning h k) (by omega) b r.val hb]
    push_cast
    rfl
  · have t := turned_eq h k (cosCol k) (.inr rfl) b
    rw [swapped_cosCol, head_entry, head_entry, t.1, t.2, (finite h k r.val hr).1, (finite h k r.val hr).2,
      (finite h k _ hb).2, cos_block (turning h k) (by omega) b r.val hb,
      show ∀ x y z : ℝ, x - y * z = x + (0 - y) * z by intros; ring, EReal.coe_add, EReal.coe_mul, EReal.coe_mul,
      EReal.coe_sub]
    rfl

/-- The array of blocks is the first 4096 rows of the table. -/
theorem rowsOf_eq (h : RotTable T) (p : Fin 4096) (j : Fin 1024) :
    (Array.rowsOf T (ix2 p j) : EReal) = entry T p.val j := by
  have e := blockOf_eq h (p.val / 256) ⟨p.val % 256, Nat.mod_lt _ (by decide)⟩ j
    (by show 256 * (p.val / 256) + p.val % 256 ≤ 4095; omega)
  rw [show 256 * (p.val / 256) + (⟨p.val % 256, Nat.mod_lt _ (by decide)⟩ : Fin 256).val = p.val from
    Nat.div_add_mod ..] at e
  exact e

/-- A table of sines and cosines of the multiples `1, 2, 3, …` of one angle for each frequency turns. -/
theorem of_angles (θ : Fin 512 → ℝ)
    (hs : ∀ k, ∀ t < 4096, entry T t (sinCol k) = (Real.sin ((t + 1) * θ k) : EReal))
    (hc : ∀ k, ∀ t < 4096, entry T t (cosCol k) = (Real.cos ((t + 1) * θ k) : EReal)) : RotTable T where
  first k := ⟨_, _, hs k 0 (by omega), hc k 0 (by omega)⟩
  sin_step k t ht := by
    rw [hs k (t + 1) (by omega), hs k t (by omega), hs k 0 (by omega), hc k t (by omega), hc k 0 (by omega)]
    have e := Real.sin_add ((t + 1) * θ k) (((0 : ℕ) + 1) * θ k)
    rw [← add_mul] at e
    have e' : Real.sin (((t + 1 : ℕ) + 1) * θ k) = _ := (congrArg (fun x => Real.sin (x * θ k)) (by push_cast; ring)).trans e
    rw [e']
    push_cast
    rfl
  cos_step k t ht := by
    rw [hc k (t + 1) (by omega), hs k t (by omega), hs k 0 (by omega), hc k t (by omega), hc k 0 (by omega)]
    have e := Real.cos_add ((t + 1) * θ k) (((0 : ℕ) + 1) * θ k)
    rw [← add_mul] at e
    have e' : Real.cos (((t + 1 : ℕ) + 1) * θ k) = _ := (congrArg (fun x => Real.cos (x * θ k)) (by push_cast; ring)).trans e
    rw [e']
    push_cast
    rfl

end Cert.Table

end
-- ==== Proof.Precondition.lean ====
module

public import proofs.«01_k».proof.Pre_rotation_table
public import proofs.«01_k».proof.Proof.Table
public import Idealize.ShloMosaic.Lib.ReduceAll
public import Idealize.ShloMosaic.Lib.Pointwise

/-!
  What the precondition says: its value is one exactly when the table turns.

  The precondition is four tests over whole arrays, joined by "and". Each test is read at an entry.
-/

@[expose] public section

noncomputable section

namespace Cert.Precondition

open Cert.Pre_rotation_table Cert.Turn Cert.Table
open Idealize.ShloMosaic

/-- The shape relations the precondition's operations take. -/
instance facts : Cert.Pre_rotation_table.Facts where
  slicesBy_S8192x1024_S4096x512_0s1_0s2 := by decide
  slicesBy_S8192x1024_S4096x512_0s1_1s2 := by decide
  slices_S4096x512_S1x512_0_0 := by decide
  bcast_S_S1x512 := by decide
  reducesTo_S1x512_S_d0_1 := by decide
  h_S_ := by decide
  slices_S4096x512_S4095x512_1_0 := by decide
  slices_S4096x512_S4095x512_0_0 := by decide
  bcast_S1x512_S4095x512_0_1 := by decide
  reducesTo_S4095x512_S_d0_1 := by decide

open Cert.Pre_rotation_table.Facts

variable (T : FVec Ideal S8192x1024 .f32)

/-- The sines of the first 4096 rows. -/
def sines : FVec Ideal S4096x512 .f32 :=
  Host.slice S4096x512 ![0, 0] ![1, 2] T slicesBy_S8192x1024_S4096x512_0s1_0s2

/-- The cosines of the first 4096 rows. -/
def cosines : FVec Ideal S4096x512 .f32 :=
  Host.slice S4096x512 ![0, 1] ![1, 2] T slicesBy_S8192x1024_S4096x512_0s1_1s2

/-- An entry of the table, from its row and column numbers. -/
theorem entry_of_val (i : Fin 8192) (j : Fin 1024) (t : ℕ) (j' : Fin 1024) (hi : i.val = t) (hj : j.val = j'.val) :
    (T (ix2 i j) : EReal) = entry T t j' := by
  have e : i = Fin.ofNat 8192 t := Fin.ext (by show i.val = t % 8192; omega)
  rw [e, Fin.ext hj]
  rfl

theorem sines_apply (t : Fin 4096) (k : Fin 512) : (sines T (ix2 t k) : EReal) = entry T t.val (sinCol k) := by
  pointwise [sines]
  exact entry_of_val T _ _ _ _ rfl rfl

theorem cosines_apply (t : Fin 4096) (k : Fin 512) : (cosines T (ix2 t k) : EReal) = entry T t.val (cosCol k) := by
  pointwise [cosines]
  exact entry_of_val T _ _ _ _ rfl (by show _ = 2 * k.val + 1; simp only [Nat.add_comm])

variable (v s c : FVec Ideal S4096x512 .f32)

/-- The first row. -/
def top : FVec Ideal S1x512 .f32 := extractStridedSlice S1x512 ![0, 0] v slices_S4096x512_S1x512_0_0

/-- All rows but the last. -/
def before : FVec Ideal S4095x512 .f32 := extractStridedSlice S4095x512 ![0, 0] v slices_S4096x512_S4095x512_0_0

/-- All rows but the first. -/
def after : FVec Ideal S4095x512 .f32 := extractStridedSlice S4095x512 ![1, 0] v slices_S4096x512_S4095x512_1_0

/-- The first row, in every row. -/
def spread : FVec Ideal S4095x512 .f32 := broadcastInDim S4095x512 ![0, 1] bcast_S1x512_S4095x512_0_1 (top v)

theorem top_apply (k : Fin 512) : top v (ix2 0 k) = v (ix2 0 k) := by
  pointwise [top]

theorem before_apply (t : Fin 4095) (k : Fin 512) : before v (ix2 t k) = v (ix2 ⟨t.val, by omega⟩ k) := by
  pointwise [before]

theorem after_apply (t : Fin 4095) (k : Fin 512) : after v (ix2 t k) = v (ix2 ⟨t.val + 1, by omega⟩ k) := by
  pointwise [after]
  exact congrArg (fun i => v (ix2 i k)) (Fin.ext (Nat.add_comm 1 _))

theorem spread_apply (t : Fin 4095) (k : Fin 512) : spread v (ix2 t k) = v (ix2 0 k) := by
  pointwise [spread, top]

/-- The test "the first row is finite". -/
def finiteTest : IVec S_ 1 :=
  Host.reduce IntOp.andi (cmpf .olt (Host.absf (top v))
    (broadcastInDim S1x512 ![] bcast_S_S1x512 (constant S_ .f32 0x7F800000#32))) (constantI S_ 1 1#1)
    reducesTo_S1x512_S_d0_1 h_S_

/-- The test "each sine is that of the sum of the angles". -/
def sinTest : IVec S_ 1 :=
  Host.reduce IntOp.andi (cmpf .oeq (after s) (addf (mulf (before s) (spread c)) (mulf (before c) (spread s))))
    (constantI S_ 1 1#1) reducesTo_S4095x512_S_d0_1 h_S_

/-- The test "each cosine is that of the sum of the angles". -/
def cosTest : IVec S_ 1 :=
  Host.reduce IntOp.andi (cmpf .oeq (after c) (subf (mulf (before c) (spread c)) (mulf (before s) (spread s))))
    (constantI S_ 1 1#1) reducesTo_S4095x512_S_d0_1 h_S_

/-- The precondition is the four tests joined by "and". -/
theorem fn_eq (x : IVec S4x4096 32) : fn (F := Ideal) x T
    = andi (andi (andi (finiteTest (sines T)) (finiteTest (cosines T))) (sinTest (sines T) (cosines T)))
        (cosTest (sines T) (cosines T)) := rfl

/-- An array has one test value for all its entries: the value is one when each entry's test is. -/
theorem all_iff {r n : ℕ} (b : IVec ⟨2, ![r, n]⟩ 1) (h : (⟨2, ![r, n]⟩ : Shape).ReducesTo [0, 1] S_) (i : S_.Idx) :
    Host.reduce IntOp.andi b (constantI S_ 1 1#1) h h_S_ i = 1#1 ↔ ∀ (t : Fin r) (k : Fin n), b (ix2 t k) = 1#1 := by
  refine ⟨fun e t k => Host.reduce_andi_all _ _ _ _ i e _, fun e => Host.reduce_andi_one _ _ _ _ _ rfl fun y => ?_⟩
  have hy : (ix2 (y 0) (y 1) : (⟨2, ![r, n]⟩ : Shape).Idx) = y :=
    funext fun a => match a with | ⟨0, _⟩ => rfl | ⟨1, _⟩ => rfl
  exact (congrArg b hy).symm.trans (e (y 0) (y 1))

theorem ofBool_one (p : Prop) [Decidable p] : BitVec.ofBool (decide p) = 1#1 ↔ p := by
  by_cases h : p <;> simp [h]

/-- A magnitude below infinity: a real number. -/
theorem finite_iff (x : EReal) : max x (-x) < ⊤ ↔ ∃ a : ℝ, x = a := by
  induction x with
  | bot => simp
  | top => simp
  | coe a => simp [← EReal.coe_neg]

theorem finiteTest_iff (i : S_.Idx) :
    finiteTest v i = 1#1 ↔ ∀ k : Fin 512, ∃ a : ℝ, (v (ix2 0 k) : EReal) = a := by
  unfold finiteTest
  rw [all_iff]
  have e : ∀ k : Fin 512, cmpf .olt (Host.absf (top v))
      (broadcastInDim S1x512 ![] bcast_S_S1x512 (constant S_ .f32 0x7F800000#32)) (ix2 0 k) = 1#1
        ↔ ∃ a : ℝ, (v (ix2 0 k) : EReal) = a := by
    intro k
    rw [← finite_iff, ← top_apply v k]
    refine (ofBool_one _).trans ?_
    have t : (Ideal.ofBits .f32 0x7F800000#32 : EReal) = ⊤ := by simp [Ideal.ofBits, Ideal.ieee]
    rw [← t]
    exact Iff.rfl
  exact ⟨fun h k => (e k).1 (h 0 k), fun h t k => by rw [Subsingleton.elim t 0]; exact (e k).2 (h k)⟩

theorem sinTest_iff (i : S_.Idx) : sinTest s c i = 1#1 ↔ ∀ (t : Fin 4095) (k : Fin 512),
    (s (ix2 ⟨t.val + 1, by omega⟩ k) : EReal)
      = s (ix2 ⟨t.val, by omega⟩ k) * c (ix2 0 k) + c (ix2 ⟨t.val, by omega⟩ k) * s (ix2 0 k) := by
  unfold sinTest
  rw [all_iff]
  refine forall_congr' fun t => forall_congr' fun k => ?_
  rw [← after_apply s t k, ← before_apply s t k, ← before_apply c t k, ← spread_apply s t k, ← spread_apply c t k]
  exact ofBool_one _

theorem cosTest_iff (i : S_.Idx) : cosTest s c i = 1#1 ↔ ∀ (t : Fin 4095) (k : Fin 512),
    (c (ix2 ⟨t.val + 1, by omega⟩ k) : EReal)
      = c (ix2 ⟨t.val, by omega⟩ k) * c (ix2 0 k) - s (ix2 ⟨t.val, by omega⟩ k) * s (ix2 0 k) := by
  unfold cosTest
  rw [all_iff]
  refine forall_congr' fun t => forall_congr' fun k => ?_
  rw [← after_apply c t k, ← before_apply s t k, ← before_apply c t k, ← spread_apply s t k, ← spread_apply c t k]
  exact ofBool_one _

/-- The precondition holds exactly of the tables that turn. -/
theorem fn_iff (x : IVec S4x4096 32) : (fn (F := Ideal) x T = fun _ => 1#1) ↔ RotTable T := by
  have key : ∀ i : S_.Idx, fn (F := Ideal) x T i = 1#1 ↔ RotTable T := by
    intro i
    rw [fn_eq]
    refine (IntOp.andi_eq_one.trans (and_congr (IntOp.andi_eq_one.trans (and_congr IntOp.andi_eq_one .rfl)) .rfl)).trans ?_
    rw [finiteTest_iff, finiteTest_iff, sinTest_iff, cosTest_iff]
    simp only [sines_apply, cosines_apply]
    constructor
    · rintro ⟨⟨⟨h1, h2⟩, h3⟩, h4⟩
      refine ⟨fun k => ?_, fun k t ht => h3 ⟨t, ht⟩ k, fun k t ht => h4 ⟨t, ht⟩ k⟩
      obtain ⟨a, ha⟩ := h1 k
      obtain ⟨b, hb⟩ := h2 k
      exact ⟨a, b, ha, hb⟩
    · intro h
      refine ⟨⟨⟨fun k => ?_, fun k => ?_⟩, fun t k => h.sin_step k t t.isLt⟩, fun t k => h.cos_step k t t.isLt⟩
      · obtain ⟨a, b, ha, hb⟩ := h.first k
        exact ⟨a, ha⟩
      · obtain ⟨a, b, ha, hb⟩ := h.first k
        exact ⟨b, hb⟩
  exact ⟨fun e => (key _).1 (congrFun e fun a => a.elim0), fun h => funext fun i => (key i).2 h⟩

end Cert.Precondition

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Precondition
public import Idealize.ShloMosaic.Adequacy
public import Idealize.ShloMosaic.Init

/-!
  The claims, put together.

  The kernel writes the array of blocks and the reference the first 4096 rows of the table, both under a leading axis
  of length one. The precondition makes the two arrays one.
-/

@[expose] public section

noncomputable section

namespace Cert.Proof

open Idealize.ShloMosaic Idealize.SL.Sem Cert.Table

/-- The array of blocks is the reference's slice of the table. -/
theorem rows_eq_slice (T : Vec Ideal Cert.KernelIdeal.S8192x1024 .f32) (h : RotTable T) :
    Array.rowsOf T = extractStridedSlice Cert.ReferenceIdeal.S4096x1024 ![0, 0] T
      Cert.ReferenceIdeal.Gen.slices_S8192x1024_S4096x1024_0_0 := by
  funext i
  have hi : (ix2 (i 0) (i 1) : (⟨2, ![4096, 1024]⟩ : Shape).Idx) = i :=
    funext fun a => match a with | ⟨0, _⟩ => rfl | ⟨1, _⟩ => rfl
  rw [← hi]
  refine (rowsOf_eq h (i 0) (i 1)).trans ?_
  pointwise
  exact (Cert.Precondition.entry_of_val T ⟨(i 0).val, (i 0).isLt.trans (by decide)⟩ (i 1) _ _ rfl rfl).symm

/-- The reference runs, its arguments end unchanged; it has no semaphore. -/
theorem reference_frame (m : ∀ r, Buf (Elt Ideal) r) (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩)
    (Cert.ReferenceIdeal.Value.run m g)

/-- The kernel and the reference end with the same result. -/
theorem same_result : algebraic_KernelIdeal_ReferenceIdeal_pre_rotation_table := by
  intro m g m' g' pre agree
  refine ⟨_, Array.run m g, ?_⟩
  refine (θ_run _ _ _).mono (fun r h c => ⟨(h c).1.trans ?_, (h c).2⟩) (Cert.ReferenceIdeal.Value.run m' g')
  rw [(agree c).2, ← rows_eq_slice _ ((Cert.Precondition.fn_iff _ _).1 (pre c))]

theorem claim : Cert.Claim :=
  ⟨Cert.Kernel.Gen.facts, Cert.KernelIdeal.Gen.facts, Cert.ReferenceIdeal.Gen.facts, Cert.Precondition.facts,
    fun m g _ => Cert.Kernel.Gen.frame m g, fun m g _ => Cert.KernelIdeal.Gen.frame m g,
    fun m g _ => Cert.KernelIdeal.Gen.frame m g, fun m g _ => reference_frame m g,
    fun m g _ => reference_frame m g, trivial, same_result⟩

end Cert.Proof

end
